-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S24x2x8192 Cert.KernelIdeal.S24x1x8192
  ∧ IdealRules.bf16_pair.BufferStatement Cert.KernelIdeal.S256x2x256 Cert.KernelIdeal.S256x1x256
  ∧ IdealRules.bf16_pair.Statement Cert.KernelIdeal.S48x8192 Cert.KernelIdeal.S24x8192
  ∧ IdealRules.bf16_pair.Statement Cert.KernelIdeal.S24x2x8192 Cert.KernelIdeal.S24x1x8192
  ∧ IdealRules.bf16_pair.Statement Cert.KernelIdeal.S256x256 Cert.KernelIdeal.S128x256
  ∧ IdealRules.bf16_pair.Statement Cert.KernelIdeal.S128x2x256 Cert.KernelIdeal.S128x1x256
  ∧ IdealRules.bf16_pair.Statement Cert.KernelIdeal.S1x2x256 Cert.KernelIdeal.S1x1x256
  ∧ IdealRules.bf16_pair.Statement Cert.KernelIdeal.S16x256 Cert.KernelIdeal.S8x256
  ∧ IdealRules.bf16_pair.Statement Cert.KernelIdeal.S24x2x256 Cert.KernelIdeal.S24x1x256
  ∧ IdealRules.bf16_pair.Statement Cert.KernelIdeal.S48x256 Cert.KernelIdeal.S24x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x8192 : Shape := ⟨3, ![48, 1, 8192]⟩
abbrev S16384x4096 : Shape := ⟨2, ![16384, 4096]⟩
abbrev S16384x256 : Shape := ⟨2, ![16384, 256]⟩
abbrev S48x8192 : Shape := ⟨2, ![48, 8192]⟩
abbrev S48x16384 : Shape := ⟨2, ![48, 16384]⟩
abbrev S256x4096 : Shape := ⟨2, ![256, 4096]⟩
abbrev S256x256 : Shape := ⟨2, ![256, 256]⟩
abbrev S48x256 : Shape := ⟨2, ![48, 256]⟩
abbrev S24x8192 : Shape := ⟨2, ![24, 8192]⟩
abbrev S128x256 : Shape := ⟨2, ![128, 256]⟩
abbrev S256x128 : Shape := ⟨2, ![256, 128]⟩
abbrev S32x256 : Shape := ⟨2, ![32, 256]⟩
abbrev S32x1x256 : Shape := ⟨3, ![32, 1, 256]⟩
abbrev S32x8x256 : Shape := ⟨3, ![32, 8, 256]⟩
abbrev S1x256 : Shape := ⟨2, ![1, 256]⟩
abbrev S8x256 : Shape := ⟨2, ![8, 256]⟩
abbrev S16x256 : Shape := ⟨2, ![16, 256]⟩
abbrev S24x256 : Shape := ⟨2, ![24, 256]⟩

abbrev nBuf : Space → Nat
  | .hbm => 5
  | .vmem => 9
  | .smem => 0
  | _ => 0

abbrev bufTy : (tb : Table) → Fin (tcTables nBuf tb) → BufTy
  | .hbm, ⟨0, _⟩ => ⟨S48x1x8192, .bf16⟩
  | .hbm, ⟨1, _⟩ => ⟨S16384x4096, .i8⟩
  | .hbm, ⟨2, _⟩ => ⟨S16384x256, .bf16⟩
  | .hbm, ⟨3, _⟩ => ⟨S48x8192, .bf16⟩
  | .hbm, ⟨4, _⟩ => ⟨S48x16384, .bf16⟩
  | .local _ .vmem, ⟨0, _⟩ => ⟨S48x8192, .bf16⟩
  | .local _ .vmem, ⟨1, _⟩ => ⟨S256x4096, .i8⟩
  | .local _ .vmem, ⟨2, _⟩ => ⟨S256x4096, .i8⟩
  | .local _ .vmem, ⟨3, _⟩ => ⟨S256x256, .bf16⟩
  | .local _ .vmem, ⟨4, _⟩ => ⟨S256x256, .bf16⟩
  | .local _ .vmem, ⟨5, _⟩ => ⟨S48x256, .bf16⟩
  | .local _ .vmem, ⟨6, _⟩ => ⟨S48x256, .bf16⟩
  | .local _ .vmem, ⟨7, _⟩ => ⟨S24x8192, .i32⟩
  | .local _ .vmem, ⟨8, _⟩ => ⟨S256x256, .i32⟩
  | _, _ => ⟨S48x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S24x2x8192 : Shape := ⟨3, ![24, 2, 8192]⟩
abbrev S24x1x8192 : Shape := ⟨3, ![24, 1, 8192]⟩
abbrev S256x2x256 : Shape := ⟨3, ![256, 2, 256]⟩
abbrev S256x1x256 : Shape := ⟨3, ![256, 1, 256]⟩
abbrev S128x2x256 : Shape := ⟨3, ![128, 2, 256]⟩
abbrev S128x1x256 : Shape := ⟨3, ![128, 1, 256]⟩
abbrev S1x2x256 : Shape := ⟨3, ![1, 2, 256]⟩
abbrev S1x1x256 : Shape := ⟨3, ![1, 1, 256]⟩
abbrev S24x2x256 : Shape := ⟨3, ![24, 2, 256]⟩
abbrev S24x1x256 : Shape := ⟨3, ![24, 1, 256]⟩
  | .local _ .vmem, ⟨7, _⟩ => ⟨S24x2x8192, .bf16⟩
  | .local _ .vmem, ⟨8, _⟩ => ⟨S256x2x256, .bf16⟩
variable {F : FTy → Type} [FloatOps F]
-- ==== ReferenceIdeal.lean ====
abbrev S48x1x8192 : Shape := ⟨3, ![48, 1, 8192]⟩
abbrev S16384x4096 : Shape := ⟨2, ![16384, 4096]⟩
abbrev S16384x256 : Shape := ⟨2, ![16384, 256]⟩
abbrev S48x1x256x16x2 : Shape := ⟨5, ![48, 1, 256, 16, 2]⟩
abbrev S48x1x256x16x1 : Shape := ⟨5, ![48, 1, 256, 16, 1]⟩
abbrev S48x1x256x16 : Shape := ⟨4, ![48, 1, 256, 16]⟩
abbrev S16384x256x16 : Shape := ⟨3, ![16384, 256, 16]⟩
abbrev S_ : Shape := ⟨0, ![]⟩
abbrev S16384x256x1 : Shape := ⟨3, ![16384, 256, 1]⟩
abbrev S48x1x16384 : Shape := ⟨3, ![48, 1, 16384]⟩
abbrev S48x16384 : Shape := ⟨2, ![48, 16384]⟩

abbrev nBuf : Space → Nat
  | .hbm => 35
  | .vmem => 0
  | .smem => 0
  | _ => 0

abbrev bufTy : (tb : Table) → Fin (tcTables nBuf tb) → BufTy
  | .hbm, ⟨0, _⟩ => ⟨S48x1x8192, .bf16⟩
  | .hbm, ⟨1, _⟩ => ⟨S16384x4096, .i8⟩
  | .hbm, ⟨2, _⟩ => ⟨S16384x256, .bf16⟩
  | .hbm, ⟨3, _⟩ => ⟨S48x1x256x16x2, .bf16⟩
  | .hbm, ⟨4, _⟩ => ⟨S48x1x256x16x1, .bf16⟩
  | .hbm, ⟨5, _⟩ => ⟨S48x1x256x16, .bf16⟩
  | .hbm, ⟨6, _⟩ => ⟨S48x1x256x16x1, .bf16⟩
  | .hbm, ⟨7, _⟩ => ⟨S48x1x256x16, .bf16⟩
  | .hbm, ⟨8, _⟩ => ⟨S16384x4096, .i32⟩
  | .hbm, ⟨9, _⟩ => ⟨S16384x256x16, .i32⟩
  | .hbm, ⟨10, _⟩ => ⟨S_, .i32⟩
  | .hbm, ⟨11, _⟩ => ⟨S16384x256x16, .i32⟩
  | .hbm, ⟨12, _⟩ => ⟨S16384x256x16, .i32⟩
  | .hbm, ⟨13, _⟩ => ⟨S_, .i32⟩
  | .hbm, ⟨14, _⟩ => ⟨S16384x256x16, .i32⟩
  | .hbm, ⟨15, _⟩ => ⟨S16384x256x16, .i32⟩
  | .hbm, ⟨16, _⟩ => ⟨S16384x256x16, .bf16⟩
  | .hbm, ⟨17, _⟩ => ⟨S_, .bf16⟩
  | .hbm, ⟨18, _⟩ => ⟨S16384x256x16, .bf16⟩
  | .hbm, ⟨19, _⟩ => ⟨S16384x256x16, .bf16⟩
  | .hbm, ⟨20, _⟩ => ⟨S16384x256x1, .bf16⟩
  | .hbm, ⟨21, _⟩ => ⟨S16384x256x16, .bf16⟩
  | .hbm, ⟨22, _⟩ => ⟨S16384x256x16, .bf16⟩
  | .hbm, ⟨23, _⟩ => ⟨S16384x256x16, .bf16⟩
  | .hbm, ⟨24, _⟩ => ⟨S_, .bf16⟩
  | .hbm, ⟨25, _⟩ => ⟨S16384x256x16, .bf16⟩
  | .hbm, ⟨26, _⟩ => ⟨S16384x256x16, .bf16⟩
  | .hbm, ⟨27, _⟩ => ⟨S16384x256x1, .bf16⟩
  | .hbm, ⟨28, _⟩ => ⟨S16384x256x16, .bf16⟩
  | .hbm, ⟨29, _⟩ => ⟨S16384x256x16, .bf16⟩
  | .hbm, ⟨30, _⟩ => ⟨S48x1x16384, .f32⟩
  | .hbm, ⟨31, _⟩ => ⟨S48x1x16384, .f32⟩
  | .hbm, ⟨32, _⟩ => ⟨S48x1x16384, .f32⟩
  | .hbm, ⟨33, _⟩ => ⟨S48x1x16384, .bf16⟩
  | .hbm, ⟨34, _⟩ => ⟨S48x16384, .bf16⟩
  | _, _ => ⟨S48x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Proof.Chunk.lean ====
module

public import proofs.«01_k».proof.Proof.Gen.KernelIdeal.Value
public import Idealize.ShloMosaic.Lib.Pipeline.ValueKit
public import Idealize.ShloMosaic.Lib.Pipeline.ReadBack

@[expose] public section

set_option maxRecDepth 16384

/-! One block of the result is built up in 32 steps. Step `k` multiplies columns `256 k … 256 k + 255` of the
    activations by the matching 256 dequantized weight rows and adds the product. The printed body writes the
    32 steps out one after another; this file names one step and the loads it reads. -/

noncomputable section

namespace Cert.KernelIdeal.Chunk

open Cert.KernelIdeal Cert.KernelIdeal.Gen Idealize.ShloMosaic Idealize.ShloMosaic.TcCoe Idealize.SL.Sem

/-- The signed four-bit codes of one step, one row for each of its 256 columns. -/
def codes (w : Vec Ideal S256x128 .i8) : FVec Ideal S256x256 .bf16 := k0_pay16 (k0_pay14 w) k0_pay15

/-- One step: `acc` plus the product of 256 activation columns with 256 dequantized weight rows. -/
def step (acc : FVec Ideal S48x256 .f32) (w : Vec Ideal S256x128 .i8)
    (s0 s1 s2 s3 s4 s5 s6 s7 : Vec Ideal S1x2x256 .bf16) (x : Vec Ideal S24x2x256 .bf16) : FVec Ideal S48x256 .f32 :=
  k0_pay29 acc (codes w)
    (k0_pay18 (k0_pay14 w) k0_pay15 s0) (k0_pay19 (k0_pay14 w) k0_pay15 s0)
    (k0_pay21 (k0_pay14 w) k0_pay15 s1) (k0_pay22 (k0_pay14 w) k0_pay15 s1)
    (k0_pay24 (k0_pay14 w) k0_pay15 s2) (k0_pay25 (k0_pay14 w) k0_pay15 s2)
    (k0_pay27 (k0_pay14 w) k0_pay15 s3) (k0_pay28 (k0_pay14 w) k0_pay15 s3) s4 s5 s6 s7 x

/-- Weight bytes `c … c + 127` of every row of the block of packed weights. -/
def wLd (x1 : Vec Ideal S256x4096 .i8) (c : ℕ) : Vec Ideal S256x128 .i8 :=
  fun j => if h : c + (j 1 : ℕ) < 4096 then x1 (ix2 (j 0) ⟨c + j 1, h⟩) else 0#8

/-- Columns `c … c + 255` of the row-pair copy of the activations. -/
def xLd (xs : Vec Ideal S24x2x8192 .bf16) (c : ℕ) : Vec Ideal S24x2x256 .bf16 :=
  fun j => if h : c + (j 2 : ℕ) < 8192 then xs (ix3 (j 0) (j 1) ⟨c + j 2, h⟩) else (0 : EReal)

/-- What the scale scratch holds: rows 0 … 127 the scales of the even groups, rows 128 … 255 those of the odd
    groups, each value in both halves of its word. -/
def scales (x2 : Vec Ideal S256x256 .bf16) : Vec Ideal S256x2x256 .bf16 :=
  fun i => x2 (ix2 (i 2) ⟨2 * ((i 0 : ℕ) % 128) + (i 0 : ℕ) / 128, by have := (i 0).isLt; change _ < 256 at this; omega⟩)

/-- Row `r` of the scale scratch. -/
def sLd (x2 : Vec Ideal S256x256 .bf16) (r : ℕ) : Vec Ideal S1x2x256 .bf16 :=
  fun j => if h : r < 256 then scales x2 (ix3 ⟨r, h⟩ (j 1) (j 2)) else (0 : EReal)

/-- The first `n` steps, from zero. -/
def chain (x1 : Vec Ideal S256x4096 .i8) (x2 : Vec Ideal S256x256 .bf16) (xs : Vec Ideal S24x2x8192 .bf16) :
    ℕ → FVec Ideal S48x256 .f32
  | 0 => k0_pay13
  | k + 1 => step (chain x1 x2 xs k) (wLd x1 (128 * k)) (sLd x2 (4 * k)) (sLd x2 (4 * k + 128)) (sLd x2 (4 * k + 1))
      (sLd x2 (4 * k + 129)) (sLd x2 (4 * k + 2)) (sLd x2 (4 * k + 130)) (sLd x2 (4 * k + 3)) (sLd x2 (4 * k + 131))
      (xLd xs (256 * k))

/-- Sixteen bands of 16 rows, stacked. -/
def stack (p0 p1 p2 p3 p4 p5 p6 p7 p8 p9 p10 p11 p12 p13 p14 p15 : FVec Ideal S16x256 .bf16) : FVec Ideal S256x256 .bf16 :=
  concatenate S256x256 0 [⟨S16x256, p0⟩, ⟨S16x256, p1⟩, ⟨S16x256, p2⟩, ⟨S16x256, p3⟩, ⟨S16x256, p4⟩, ⟨S16x256, p5⟩, ⟨S16x256, p6⟩, ⟨S16x256, p7⟩, ⟨S16x256, p8⟩, ⟨S16x256, p9⟩, ⟨S16x256, p10⟩, ⟨S16x256, p11⟩, ⟨S16x256, p12⟩, ⟨S16x256, p13⟩, ⟨S16x256, p14⟩, ⟨S16x256, p15⟩] concatenates_S16x256_S16x256_S16x256_S16x256_S16x256_S16x256_S16x256_S16x256_S16x256_S16x256_S16x256_S16x256_S16x256_S16x256_S16x256_S16x256_S256x256_d0

/-- The concatenation of sixteen bands is `stack` of them. -/
theorem stack_eq (p0 p1 p2 p3 p4 p5 p6 p7 p8 p9 p10 p11 p12 p13 p14 p15 : FVec Ideal S16x256 .bf16) (h) :
    concatenate S256x256 0 [⟨S16x256, p0⟩, ⟨S16x256, p1⟩, ⟨S16x256, p2⟩, ⟨S16x256, p3⟩, ⟨S16x256, p4⟩, ⟨S16x256, p5⟩, ⟨S16x256, p6⟩, ⟨S16x256, p7⟩, ⟨S16x256, p8⟩, ⟨S16x256, p9⟩, ⟨S16x256, p10⟩, ⟨S16x256, p11⟩, ⟨S16x256, p12⟩, ⟨S16x256, p13⟩, ⟨S16x256, p14⟩, ⟨S16x256, p15⟩] h = stack p0 p1 p2 p3 p4 p5 p6 p7 p8 p9 p10 p11 p12 p13 p14 p15 := rfl

/-- A load of 128 columns of weight bytes. -/
theorem ld_w (x1 : Vec Ideal S256x4096 .i8) (c : ℕ)
    (h : ∀ a, (![0, c] : Fin 2 → Nat) a + (![256, 128] : Fin 2 → Nat) a ≤ S256x4096.size a) :
    View.ld (Val := Elt Ideal) (e' := .i8) x1 (Rect.unit (s := S256x4096) ![0, c] ![256, 128] h) = wLd x1 c := by
  funext j
  have h1 : c + 128 ≤ 4096 := h 1
  have h2 : (j 1 : ℕ) < 128 := (j 1).isLt
  have hb : c + (j 1 : ℕ) < 4096 := by omega
  refine (View.ld_unit_apply_of _ _ _ _ _ (ix2 (j 0) ⟨c + (j 1 : ℕ), hb⟩) ?_).trans ?_
  · exact Fin.forall_fin_two.mpr ⟨(Nat.zero_add _).symm, rfl⟩
  · unfold wLd; rw [dif_pos hb]; try rfl

/-- A load of 256 columns of activations. -/
theorem ld_x (xs : Vec Ideal S24x2x8192 .bf16) (c : ℕ)
    (h : ∀ a, (![0, 0, c] : Fin 3 → Nat) a + (![24, 2, 256] : Fin 3 → Nat) a ≤ S24x2x8192.size a) :
    View.ld (Val := Elt Ideal) (e' := .bf16) xs (Rect.unit (s := S24x2x8192) ![0, 0, c] ![24, 2, 256] h) = xLd xs c := by
  funext j
  have h1 : c + 256 ≤ 8192 := h 2
  have h2 : (j 2 : ℕ) < 256 := (j 2).isLt
  have hb : c + (j 2 : ℕ) < 8192 := by omega
  refine (View.ld_unit_apply_of _ _ _ _ _ (ix3 (j 0) (j 1) ⟨c + (j 2 : ℕ), hb⟩) ?_).trans ?_
  · exact Fin.forall_fin_succ.mpr ⟨(Nat.zero_add _).symm, Fin.forall_fin_two.mpr ⟨(Nat.zero_add _).symm, rfl⟩⟩
  · unfold xLd; rw [dif_pos hb]; try rfl

/-- The two stores into the scale scratch leave `scales`. -/
theorem canon_scales (x2 : Vec Ideal S256x256 .bf16) :
    View.canon (Val := Elt Ideal) (s := S256x2x256) (e := .bf16)
      [⟨Rect.unit ![128, 0, 0] ![128, 2, 256] inb_S256x2x256_S128x2x256_128_0_0, k0_pay12 x2⟩,
       ⟨Rect.unit ![0, 0, 0] ![128, 2, 256] inb_S256x2x256_S128x2x256_0_0_0, k0_pay11 x2⟩] = scales x2 := by
  funext y
  canon_tiles x h
  all_goals
    pointwise [k0_pay10, k0_pay11, k0_pay12, scales]
    rw [ite_self]
    blk_ext

/-- A load of one row of the scale scratch, read back from the two stores that fill it. -/
theorem ld_s (v : View sig .tc .vmem S256x2x256 .bf16) (x2 : Vec Ideal S256x256 .bf16) (r : ℕ)
    (h : ∀ a, (![r, 0, 0] : Fin 3 → Nat) a + (![1, 2, 256] : Fin 3 → Nat) a ≤ S256x2x256.size a) :
    v.readCov (Val := Elt Ideal)
      [⟨Rect.unit ![128, 0, 0] ![128, 2, 256] inb_S256x2x256_S128x2x256_128_0_0, k0_pay12 x2⟩,
       ⟨Rect.unit ![0, 0, 0] ![128, 2, 256] inb_S256x2x256_S128x2x256_0_0_0, k0_pay11 x2⟩]
      (Rect.unit (s := S256x2x256) ![r, 0, 0] ![1, 2, 256] h).toLoadRect = sLd x2 r := by
  rw [View.readCov_eq_canon', canon_scales]
  funext j
  have h1 : r + 1 ≤ 256 := h 0
  have h2 : (j 0 : ℕ) < 1 := (j 0).isLt
  have hb : r < 256 := by omega
  refine (View.ld_unit_apply_of (scales x2) _ _ h j (ix3 ⟨r, hb⟩ (j 1) (j 2)) ?_).trans ?_
  · exact Fin.forall_fin_succ.mpr ⟨by show r = r + (j 0 : ℕ); omega, Fin.forall_fin_two.mpr ⟨(Nat.zero_add _).symm, (Nat.zero_add _).symm⟩⟩
  · unfold sLd; rw [dif_pos hb]; try rfl

end Cert.KernelIdeal.Chunk
-- ==== Proof.Body.lean ====
module

public import proofs.«01_k».proof.Proof.Chunk
public import Idealize.ShloMosaic.Lib.Pointwise

@[expose] public section

set_option maxRecDepth 16384

/-! What the body leaves: the output block is the 32 steps from zero, and the row-pair copy of the activations is
    written at the first grid point and kept at the others. -/

noncomputable section

namespace Cert.KernelIdeal.Body

open Cert.KernelIdeal Cert.KernelIdeal.Gen Cert.KernelIdeal.Chunk Idealize.ShloMosaic Idealize.ShloMosaic.TcCoe Idealize.SL.Sem

set_option maxHeartbeats 800000 in
/-- At the first point the steps read the copy of the activations the point has just stored. -/
theorem outA (c : Dev nD) (i : grid0.Coords) (arg1 : Memref sig .tc .vmem S48x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S48x256 .bf16) (harg4 : arg4.IsWhole) (arg5 : Memref sig .tc .vmem S24x2x8192 .bf16) (harg5 : arg5.IsWhole) (arg6 : Memref sig .tc .vmem S256x2x256 .bf16) (harg6 : arg6.IsWhole) (hc0 : cond0_0 i)
    (x0 : Vec Ideal S48x8192 .bf16) (x1 : Vec Ideal S256x4096 .i8) (x2 : Vec Ideal S256x256 .bf16) :
    out0_A_3 c i arg1 harg1 arg2 harg2 arg3 harg3 arg4 harg4 arg5 harg5 arg6 harg6 hc0 x0 x1 x2
      = truncf .bf16 (chain x1 x2 (k0_pay9 x0) 32) bitsLt_bf16_f32 := by
  frame_out [↓ stack_eq, View.readCov_fill, ld_w, ld_x, ld_s]
  simp only [chain, step, codes, Nat.reduceMul, Nat.reduceAdd]
  unfold_payloads
  dsimp only [stack]

set_option maxHeartbeats 800000 in
/-- At a later point they read the copy found in the scratch. -/
theorem outB (c : Dev nD) (i : grid0.Coords) (arg1 : Memref sig .tc .vmem S48x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S48x256 .bf16) (harg4 : arg4.IsWhole) (arg5 : Memref sig .tc .vmem S24x2x8192 .bf16) (harg5 : arg5.IsWhole) (arg6 : Memref sig .tc .vmem S256x2x256 .bf16) (harg6 : arg6.IsWhole) (hc0 : ¬cond0_0 i)
    (x0 : Vec Ideal S48x8192 .bf16) (x1 : Vec Ideal S256x4096 .i8) (x2 : Vec Ideal S256x256 .bf16) (xs0 : Vec Ideal S24x2x8192 .bf16) :
    out0_B_3 c i arg1 harg1 arg2 harg2 arg3 harg3 arg4 harg4 arg5 harg5 arg6 harg6 hc0 x0 x1 x2 xs0
      = truncf .bf16 (chain x1 x2 xs0 32) bitsLt_bf16_f32 := by
  frame_out [↓ stack_eq, ld_w, ld_x, ld_s]
  simp only [chain, step, codes, Nat.reduceMul, Nat.reduceAdd]
  unfold_payloads
  dsimp only [stack]

/-- The first point leaves the copy of the activations in the scratch. -/
theorem soutA (c : Dev nD) (i : grid0.Coords) (arg1 : Memref sig .tc .vmem S48x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S48x256 .bf16) (harg4 : arg4.IsWhole) (arg5 : Memref sig .tc .vmem S24x2x8192 .bf16) (harg5 : arg5.IsWhole) (arg6 : Memref sig .tc .vmem S256x2x256 .bf16) (harg6 : arg6.IsWhole) (hc0 : cond0_0 i)
    (x0 : Vec Ideal S48x8192 .bf16) (x1 : Vec Ideal S256x4096 .i8) (x2 : Vec Ideal S256x256 .bf16) :
    sout0_A_0 c i arg1 harg1 arg2 harg2 arg3 harg3 arg4 harg4 arg5 harg5 arg6 harg6 hc0 x0 x1 x2 = k0_pay9 x0 := by
  frame_out

/-- A later point leaves the scratch as it found it. -/
theorem soutB (c : Dev nD) (i : grid0.Coords) (arg1 : Memref sig .tc .vmem S48x8192 .bf16) (harg1 : arg1.IsWhole) (arg2 : Memref sig .tc .vmem S256x4096 .i8) (harg2 : arg2.IsWhole) (arg3 : Memref sig .tc .vmem S256x256 .bf16) (harg3 : arg3.IsWhole) (arg4 : Memref sig .tc .vmem S48x256 .bf16) (harg4 : arg4.IsWhole) (arg5 : Memref sig .tc .vmem S24x2x8192 .bf16) (harg5 : arg5.IsWhole) (arg6 : Memref sig .tc .vmem S256x2x256 .bf16) (harg6 : arg6.IsWhole) (hc0 : ¬cond0_0 i)
    (x0 : Vec Ideal S48x8192 .bf16) (x1 : Vec Ideal S256x4096 .i8) (x2 : Vec Ideal S256x256 .bf16) (xs0 : Vec Ideal S24x2x8192 .bf16) :
    sout0_B_0 c i arg1 harg1 arg2 harg2 arg3 harg3 arg4 harg4 arg5 harg5 arg6 harg6 hc0 x0 x1 x2 xs0 = xs0 := rfl

end Cert.KernelIdeal.Body
-- ==== Proof.Codes.lean ====
module

public import Idealize.ShloMosaic.Lib.Pointwise
public import Idealize.ShloMosaic.Lib.BitcastFour

@[expose] public section

/-! A packed weight byte holds two codes 0 … 15, the even column in the low half and the odd column in the high half.
    The kernel flips the top bit of every half and reads the result as a signed four-bit number; the reference reads the
    half as a number and takes 8 away. Both give the same integer. -/

noncomputable section

namespace Cert.Codes

open Idealize.ShloMosaic

/-- Half `p` of a byte with its top bit flipped. -/
def code (b : BitVec 8) (p : ℕ) : BitVec 4 := (b >>> (4 * p)).setWidth 4 ^^^ 8#4

/-- Half `t` of a word with its top bit flipped, as the two shifts of the kernel take it out. -/
theorem shifts (W : BitVec 32) (t : ℕ) (ht : t < 8) :
    BitVec.setWidth 4 (IntOp.shrsi .vector (IntOp.shli .vector (IntOp.xori W 2290649224#32)
        (IntOp.subi 28#32 (IntOp.muli 4#32 (BitVec.ofNat 32 t)))) 28#32)
      = (W >>> (4 * t)).setWidth 4 ^^^ 8#4 := by
  have e : IntOp.subi 28#32 (IntOp.muli 4#32 (BitVec.ofNat 32 t)) = BitVec.ofNat 32 (28 - 4 * t) := by
    interval_cases t <;> rfl
  rw [e]
  have hl : (BitVec.ofNat 32 (28 - 4 * t)).toNat = 28 - 4 * t := by
    rw [BitVec.toNat_ofNat]; omega
  unfold IntOp.shrsi IntOp.shli IntOp.xori
  rw [if_pos (by decide), if_pos (by rw [hl]; omega)]
  apply BitVec.eq_of_getLsbD_eq
  intro i hi
  interval_cases t <;> interval_cases i <;> simp [BitVec.getElem_sshiftRight, BitVec.msb_eq_getLsbD_last]

/-- Half `t` of the word made of four bytes of a column is half `t % 2` of byte `t / 2`. -/
theorem halves {R r n : ℕ} (x : (⟨2, ![R, n]⟩ : Shape).Idx → BitVec 8)
    (h : (⟨2, ![R, n]⟩ : Shape).Bitcasts 8 ⟨2, ![r, n]⟩ 32) (a : Fin r) (l : Fin n) (t : ℕ) (ht : t < 8) (p : Fin R)
    (hp : p.val = 4 * a.val + t / 2) :
    (bitcast ⟨2, ![r, n]⟩ 32 x h (ValueIdx.ix2 a l) >>> (4 * t)).setWidth 4
      = (x (ValueIdx.ix2 p l) >>> (4 * (t % 2))).setWidth 4 := by
  apply BitVec.eq_of_getLsbD_eq
  intro i hi
  rw [BitVec.getLsbD_setWidth, BitVec.getLsbD_setWidth, BitVec.getLsbD_ushiftRight, BitVec.getLsbD_ushiftRight,
    bitcast_8_32_getLsbD_ix2 x h a l (4 * t + i) (by omega) p (by omega)]
  rw [show (4 * t + i) % 8 = 4 * (t % 2) + i by omega]

/-- The low half with its top bit flipped, read signed, is the low code minus 8. -/
theorem low_int (b : BitVec 8) : (code b 0).toInt = (IntOp.andi (b.setWidth 32) 15#32).toInt - 8 := by
  obtain ⟨k⟩ := b
  revert k
  decide +kernel

/-- The high half with its top bit flipped, read signed, is the high code minus 8. -/
theorem high_int (b : BitVec 8) : (code b 1).toInt = (IntOp.shrsi .host (b.setWidth 32) 4#32).toInt - 8 := by
  obtain ⟨k⟩ := b
  revert k
  decide +kernel

/-- The constant the reference takes away is 8. -/
theorem eight : Ideal.ofBits .bf16 0x4100#16 = ((8 : ℝ) : EReal) := by
  simp [Ideal.ofBits, Ideal.ieee, -EReal.coe_mul]; norm_num

end Cert.Codes
-- ==== Proof.Step.lean ====
module

public import proofs.«01_k».proof.Proof.Chunk
public import proofs.«01_k».proof.Proof.Codes
public import Idealize.ShloMosaic.Lib.Pointwise

@[expose] public section

set_option maxRecDepth 16384

/-! One step read at an entry: what it adds is a sum over its 256 columns of activation times code times scale. -/

noncomputable section

namespace Cert.KernelIdeal.Step

open Cert.KernelIdeal Cert.KernelIdeal.Gen Cert.KernelIdeal.Chunk Idealize.ShloMosaic Idealize.ShloMosaic.TcCoe Idealize.SL.Sem

/-- One row of scales, repeated over 16 rows, read at an entry. -/
theorem rep_at (s : Vec Ideal S1x2x256 .bf16) (a : Fin 16) (n : Fin 256) :
    k0_pay17 s (ix2 a n) = s (ix3 0 ⟨(a : ℕ) % 2, by omega⟩ n) := by
  pointwise [k0_pay17]
  simp only [dite_eq_ite, ite_self]
  rcases Nat.mod_two_eq_zero_or_one (a : ℕ) with h | h <;> simp only [h] <;> rfl

/-- Sixteen stacked bands, read at a row: row `j` is row `j % 16` of band `j / 16`. -/
theorem stack_at (p0 p1 p2 p3 p4 p5 p6 p7 p8 p9 p10 p11 p12 p13 p14 p15 : FVec Ideal S16x256 .bf16) (j n : Fin 256) :
    stack p0 p1 p2 p3 p4 p5 p6 p7 p8 p9 p10 p11 p12 p13 p14 p15 (ix2 j n)
      = (![p0, p1, p2, p3, p4, p5, p6, p7, p8, p9, p10, p11, p12, p13, p14, p15] ⟨(j : ℕ) / 16, by omega⟩)
          (ix2 ⟨(j : ℕ) % 16, by omega⟩ n) := by
  exact concatenate_ofFn_apply (t := S256x256) (s₁ := S16x256) 0
    ![p0, p1, p2, p3, p4, p5, p6, p7, p8, p9, p10, p11, p12, p13, p14, p15]
    concatenates_S16x256_S16x256_S16x256_S16x256_S16x256_S16x256_S16x256_S16x256_S16x256_S16x256_S16x256_S16x256_S16x256_S16x256_S16x256_S16x256_S256x256_d0
    rfl 16 rfl (ix2 j n) ⟨(j : ℕ) / 16, by omega⟩ rfl (ix2 ⟨(j : ℕ) % 16, by omega⟩ n) rfl
    (Fin.forall_fin_two.mpr ⟨fun h => absurd rfl h, fun _ => rfl⟩)

/-- A band of 16 rows of codes times a row of scales. -/
def band (q : FVec Ideal S256x256 .bf16) (o : ℕ) (h : S256x256.Slices ![o, 0] S16x256) (s : Vec Ideal S1x2x256 .bf16) :
    FVec Ideal S16x256 .bf16 := mulf (extractStridedSlice S16x256 ![o, 0] q h) (k0_pay17 s)

/-- Row `a` of the band starting at row `o`. -/
theorem band_at (q : FVec Ideal S256x256 .bf16) (o : ℕ) (h : S256x256.Slices ![o, 0] S16x256) (s : Vec Ideal S1x2x256 .bf16)
    (a : Fin 16) (n : Fin 256) (j : Fin 256) (hj : (j : ℕ) = o + a) :
    band q o h s (ix2 a n) = q (ix2 j n) * s (ix3 0 ⟨(a : ℕ) % 2, by omega⟩ n) := by
  obtain ⟨j, hj'⟩ := j
  subst hj
  pointwise [band]
  rw [rep_at]

/-- The dequantized weight rows of one step. -/
def weights (q : FVec Ideal S256x256 .bf16) (s0 s1 s2 s3 s4 s5 s6 s7 : Vec Ideal S1x2x256 .bf16) : FVec Ideal S256x256 .bf16 :=
  stack (band q 0 slices_S256x256_o0_0_S16x256 s0) (band q 16 slices_S256x256_o16_0_S16x256 s0)
    (band q 32 slices_S256x256_o32_0_S16x256 s1) (band q 48 slices_S256x256_o48_0_S16x256 s1)
    (band q 64 slices_S256x256_o64_0_S16x256 s2) (band q 80 slices_S256x256_o80_0_S16x256 s2)
    (band q 96 slices_S256x256_o96_0_S16x256 s3) (band q 112 slices_S256x256_o112_0_S16x256 s3)
    (band q 128 slices_S256x256_o128_0_S16x256 s4) (band q 144 slices_S256x256_o144_0_S16x256 s4)
    (band q 160 slices_S256x256_o160_0_S16x256 s5) (band q 176 slices_S256x256_o176_0_S16x256 s5)
    (band q 192 slices_S256x256_o192_0_S16x256 s6) (band q 208 slices_S256x256_o208_0_S16x256 s6)
    (band q 224 slices_S256x256_o224_0_S16x256 s7) (band q 240 slices_S256x256_o240_0_S16x256 s7)

/-- The activations of one step, rows of each pair put back one after the other. -/
def acts (x : Vec Ideal S24x2x256 .bf16) : FVec Ideal S48x256 .bf16 :=
  interleaveRows S48x256 (shapeCast S24x256 (rowsOfParity 0 S24x1x256 x bitcasts_S24x2x256_w16_S24x1x256_w32) shapeCasts_S24x1x256_S24x256)
    (shapeCast S24x256 (rowsOfParity 1 S24x1x256 x bitcasts_S24x2x256_w16_S24x1x256_w32) shapeCasts_S24x1x256_S24x256)
    bitcasts_S48x256_w16_S24x256_w32

/-- One step is the accumulator plus the product of the activations with the dequantized weights. -/
theorem step_eq (acc : FVec Ideal S48x256 .f32) (w : Vec Ideal S256x128 .i8)
    (s0 s1 s2 s3 s4 s5 s6 s7 : Vec Ideal S1x2x256 .bf16) (x : Vec Ideal S24x2x256 .bf16) :
    step acc w s0 s1 s2 s3 s4 s5 s6 s7 x
      = addf acc (matmul dot_S48x256_S256x256_S48x256_1_0_0_1_n_n none (acts x)
          (weights (codes w) s0 s1 s2 s3 s4 s5 s6 s7) (constant S48x256 .f32 0x00000000#32)) := by
  simp only [step, weights, band, codes, acts]
  unfold_payloads
  dsimp only [stack]

/-- A row of the weights: its code times the scale of its group of 32. -/
theorem weights_at (q : FVec Ideal S256x256 .bf16) (s0 s1 s2 s3 s4 s5 s6 s7 : Vec Ideal S1x2x256 .bf16) (j n : Fin 256) :
    weights q s0 s1 s2 s3 s4 s5 s6 s7 (ix2 j n)
      = q (ix2 j n) * (![s0, s1, s2, s3, s4, s5, s6, s7] ⟨(j : ℕ) / 32, by omega⟩) (ix3 0 ⟨(j : ℕ) % 2, by omega⟩ n) := by
  rw [weights, stack_at]
  have hj : (j : ℕ) = 16 * ((j : ℕ) / 16) + (j : ℕ) % 16 := by omega
  have hp : ((j : ℕ) % 16) % 2 = (j : ℕ) % 2 := by omega
  have hg : (j : ℕ) / 32 = (j : ℕ) / 16 / 2 := by omega
  have hr : (j : ℕ) / 16 < 16 := by omega
  obtain ⟨r, er⟩ : ∃ r, (j : ℕ) / 16 = r := ⟨_, rfl⟩
  rw [er] at hj hr hg
  simp only [hg, er]
  interval_cases r <;> exact (band_at q _ _ _ _ n j hj).trans (by simp only [hp]; rfl)

/-- One step at an entry: the accumulator plus the sum over the step's 256 columns of activation times code times scale. -/
theorem step_at (acc : FVec Ideal S48x256 .f32) (w : Vec Ideal S256x128 .i8)
    (s0 s1 s2 s3 s4 s5 s6 s7 : Vec Ideal S1x2x256 .bf16) (x : Vec Ideal S24x2x256 .bf16) (b : Fin 48) (n : Fin 256) :
    step acc w s0 s1 s2 s3 s4 s5 s6 s7 x (ix2 b n)
      = acc (ix2 b n) + ∑ j : Fin 256, x (ix3 ⟨(b : ℕ) / 2, by omega⟩ ⟨(b : ℕ) % 2, by omega⟩ j)
          * (codes w (ix2 j n) * (![s0, s1, s2, s3, s4, s5, s6, s7] ⟨(j : ℕ) / 32, by omega⟩) (ix3 0 ⟨(j : ℕ) % 2, by omega⟩ n)) := by
  rw [step_eq]
  pointwise [acts]
  simp only [weights_at]
  congr 1
  refine Finset.sum_congr rfl fun j _ => ?_
  congr 1
  rcases Nat.mod_two_eq_zero_or_one (b : ℕ) with h | h <;> simp only [h] <;> rfl

/-- The codes of one step at an entry: a half of a weight byte, its top bit flipped, read signed. -/
theorem codes_at (w : Vec Ideal S256x128 .i8) (j : Fin 256) (n : Fin 256) :
    codes w (ix2 j n) = (FloatOps.sitofp .bf16 (Codes.code (w (ix2 n ⟨(j : ℕ) / 2, by omega⟩)) ((j : ℕ) % 2)) : Ideal .bf16) := by
  pointwise [codes, k0_pay16, k0_pay14, k0_pay15]
  rw [Codes.shifts _ _ (by omega)]
  unfold Codes.code
  congr 2
  refine (Codes.halves _ _ _ n ((j : ℕ) % 8) (by omega) ⟨(j : ℕ) / 2, by omega⟩ ?_).trans ?_
  · show (j : ℕ) / 2 = 4 * ((j : ℕ) / 8) + (j : ℕ) % 8 / 2
    omega
  · rw [show (j : ℕ) % 8 % 2 = (j : ℕ) % 2 by omega]
    congr 2
    exact transpose_apply _ w _ _ _ (Fin.forall_fin_two.mpr ⟨rfl, rfl⟩)

/-- The stored copy of the activations holds row `2 a + p` at pair `a`, place `p`. -/
theorem copy_at (x : Vec Ideal S48x8192 .bf16) (a : Fin 24) (p : Fin 2) (n : Fin 8192) :
    k0_pay9 x (ix3 a p n) = x (ix2 ⟨2 * (a : ℕ) + p, by omega⟩ n) := by
  pointwise [k0_pay9]
  fin_cases p <;> rfl

end Cert.KernelIdeal.Step
-- ==== Proof.Dot.lean ====
module

public import proofs.«01_k».proof.Proof.Codes

@[expose] public section

/-! The number both programs compute: a sum over 8192 columns of activation times (code minus 8) times the scale of the
    column's group of 32. The reference sums the even and the odd columns apart; the kernel sums 256 columns at a time. -/

noncomputable section

namespace Cert.Dot

open Idealize.ShloMosaic

/-- Column `d` of the sum: the activation, the half of the weight byte read as a signed code, the scale of the group. -/
def col (X : Fin 8192 → EReal) (W : Fin 4096 → BitVec 8) (S : Fin 256 → EReal) (d : ℕ) : EReal :=
  if h : d < 8192 then
    X ⟨d, h⟩ * ((((Codes.code (W ⟨d / 2, by omega⟩) (d % 2)).toInt : ℝ) : EReal) * S ⟨d / 32, by omega⟩)
  else 0

/-- The sum over the 8192 columns. -/
def dot (X : Fin 8192 → EReal) (W : Fin 4096 → BitVec 8) (S : Fin 256 → EReal) : EReal :=
  ∑ d ∈ Finset.range 8192, col X W S d

/-- A sum over `m * k` columns is a sum over `m` groups of `k`. -/
theorem sum_groups (f : ℕ → EReal) (k m : ℕ) :
    ∑ d ∈ Finset.range (m * k), f d = ∑ g ∈ Finset.range m, ∑ e ∈ Finset.range k, f (g * k + e) := by
  induction m with
  | zero => simp
  | succ m ih => rw [Nat.succ_mul, Finset.sum_range_add, ih, Finset.sum_range_succ]

/-- A sum over the columns is the sum over the even columns plus the sum over the odd columns, group by group. -/
theorem sum_even_odd (f : ℕ → EReal) :
    ∑ d ∈ Finset.range 8192, f d
      = ∑ g : Fin 256, ∑ e : Fin 16, f ((g : ℕ) * 32 + (e : ℕ) * 2)
        + ∑ g : Fin 256, ∑ e : Fin 16, f ((g : ℕ) * 32 + (e : ℕ) * 2 + 1) := by
  rw [← Finset.sum_add_distrib]
  simp only [← Finset.sum_add_distrib]
  rw [show 8192 = 256 * 32 from rfl, sum_groups, Finset.sum_range]
  refine Finset.sum_congr rfl fun g _ => ?_
  rw [show 32 = 16 * 2 from rfl, sum_groups, Finset.sum_range]
  refine Finset.sum_congr rfl fun e _ => ?_
  rw [Finset.sum_range_succ, Finset.sum_range_one]
  rfl

end Cert.Dot
-- ==== Proof.Chain.lean ====
module

public import proofs.«01_k».proof.Proof.Step
public import proofs.«01_k».proof.Proof.Dot

@[expose] public section

set_option maxRecDepth 16384

/-! The 32 steps together: the block at an entry is the sum over all 8192 columns. -/

noncomputable section

namespace Cert.KernelIdeal.Chain

open Cert.KernelIdeal Cert.KernelIdeal.Gen Cert.KernelIdeal.Chunk Cert.KernelIdeal.Step
open Idealize.ShloMosaic Idealize.ShloMosaic.TcCoe Idealize.SL.Sem

/-- A column of the activations a step loads. -/
theorem xLd_at (xs : Vec Ideal S24x2x8192 .bf16) (c : ℕ) (a : Fin 24) (p : Fin 2) (j : Fin 256) (d : Fin 8192)
    (hd : (d : ℕ) = c + j) : xLd xs c (ix3 a p j) = xs (ix3 a p d) := by
  obtain ⟨d, h⟩ := d
  subst hd
  exact dif_pos h

/-- A weight byte a step loads. -/
theorem wLd_at (x1 : Vec Ideal S256x4096 .i8) (c : ℕ) (n : Fin 256) (j : Fin 128) (d : Fin 4096)
    (hd : (d : ℕ) = c + j) : wLd x1 c (ix2 n j) = x1 (ix2 n d) := by
  obtain ⟨d, h⟩ := d
  subst hd
  exact dif_pos h

/-- Row `r` of the scale scratch holds the scales of one group. -/
theorem sLd_at (x2 : Vec Ideal S256x256 .bf16) (r : ℕ) (p : Fin 2) (n : Fin 256) (g : Fin 256) (hr : r < 256)
    (hg : (g : ℕ) = 2 * (r % 128) + r / 128) : sLd x2 r (ix3 0 p n) = x2 (ix2 n g) := by
  obtain ⟨g, hg'⟩ := g
  subst hg
  unfold sLd
  rw [dif_pos hr]
  rfl

/-- The eight rows step `k` reads hold the scales of groups `8 k … 8 k + 7`. -/
theorem scales_at (x2 : Vec Ideal S256x256 .bf16) (k : ℕ) (hk : k < 32) (i : Fin 8) (p : Fin 2) (n : Fin 256) :
    (![sLd x2 (4 * k), sLd x2 (4 * k + 128), sLd x2 (4 * k + 1), sLd x2 (4 * k + 129), sLd x2 (4 * k + 2),
      sLd x2 (4 * k + 130), sLd x2 (4 * k + 3), sLd x2 (4 * k + 131)] i) (ix3 0 p n)
      = x2 (ix2 n ⟨8 * k + i, by omega⟩) := by
  fin_cases i <;> exact sLd_at x2 _ p n _ (by omega) (by simp only []; omega)

/-- The first `k` steps sum the first `256 k` columns. -/
theorem chain_at (x1 : Vec Ideal S256x4096 .i8) (x2 : Vec Ideal S256x256 .bf16) (xs : Vec Ideal S24x2x8192 .bf16)
    (b : Fin 48) (n : Fin 256) (k : ℕ) (hk : k ≤ 32) :
    chain x1 x2 xs k (ix2 b n)
      = ∑ d ∈ Finset.range (k * 256), Dot.col (fun d => xs (ix3 ⟨(b : ℕ) / 2, by omega⟩ ⟨(b : ℕ) % 2, by omega⟩ d))
          (fun c => x1 (ix2 n c)) (fun g => x2 (ix2 n g)) d := by
  induction k with
  | zero =>
    rw [Nat.zero_mul, Finset.range_zero, Finset.sum_empty]
    unfold chain
    pointwise [k0_pay13]
  | succ k ih =>
    unfold chain
    rw [step_at, ih (by omega), Nat.succ_mul k 256, Finset.sum_range_add]
    congr 1
    refine Eq.trans ?_ (Finset.sum_range _).symm
    refine Finset.sum_congr rfl fun j _ => ?_
    rw [scales_at x2 k (by omega), codes_at]
    have hj := j.isLt
    unfold Dot.col
    rw [dif_pos (show k * 256 + (j : ℕ) < 8192 by omega),
      xLd_at xs _ _ _ j ⟨k * 256 + (j : ℕ), by omega⟩ (by show k * 256 + (j : ℕ) = _; omega),
      wLd_at x1 _ n _ ⟨(k * 256 + (j : ℕ)) / 2, by omega⟩ (by show (k * 256 + (j : ℕ)) / 2 = 128 * k + (j : ℕ) / 2; omega)]
    have e3 : (k * 256 + (j : ℕ)) % 2 = (j : ℕ) % 2 := by omega
    have e4 : (k * 256 + (j : ℕ)) / 32 = 8 * k + (j : ℕ) / 32 := by omega
    simp only [e3, e4]
    rfl

end Cert.KernelIdeal.Chain
-- ==== Proof.Final.lean ====
module

public import proofs.«01_k».proof.Proof.Body
public import proofs.«01_k».proof.Proof.Chain
public import Idealize.ShloMosaic.Lib.Claim

@[expose] public section

set_option maxRecDepth 16384

/-! The array the kernel leaves: at row `b` and column `n`, the sum over 8192 columns. -/

noncomputable section

namespace Cert.KernelIdeal.Final

open Cert.KernelIdeal Cert.KernelIdeal.Gen Cert.KernelIdeal.Chunk Cert.KernelIdeal.Body Cert.KernelIdeal.Step Cert.KernelIdeal.Chain
open Idealize.ShloMosaic Idealize.ShloMosaic.TcCoe Idealize.SL.Sem

variable (m : (ℓ : Loc nD τ sig) → Buf (Elt Ideal) ℓ)

/-- The block each grid point takes of every array. -/
theorem idx : ∀ t : Fin cfg0.N, win0_0.index t = ![0, 0] ∧ win0_1.index t = ![(t : ℕ), 0] ∧ win0_2.index t = ![(t : ℕ), 0]
    ∧ win0_3.index t = ![0, (t : ℕ)] := (by decide +kernel : ∀ t : Fin grid0.N, _)

/-- The activations, one row for each of the 48 inputs. -/
def acts (c : Dev nD) : Vec Ideal S48x8192 .bf16 :=
  fun i => (m ((c : Thread nD τ).loc main_arg0) : FVec Ideal S48x1x8192 .bf16) (ix3 (i 0) 0 (i 1))

/-- Every point reads all the activations. -/
theorem block_acts (c : Dev nD) (t : Fin cfg0.N) : (iblk m c 0 t : Vec Ideal S48x8192 .bf16) = acts m c := by
  funext i
  blk_simp [iblk, idx t]
  entry_read
  pointwise [acts]
  blk_ext [idx t]

/-- Point `t` reads weight rows `256 t … 256 t + 255`. -/
theorem block_bytes (c : Dev nD) (t : Fin cfg0.N) (n : Fin 256) (k : Fin 4096) (N : Fin 16384) (hN : (N : ℕ) = 256 * t + n) :
    (iblk m c 1 t : Vec Ideal S256x4096 .i8) (ix2 n k)
      = (m ((c : Thread nD τ).loc main_arg1) : IVec S16384x4096 8) (ix2 N k) := by
  blk_ext [iblk, V, idx t]

/-- Point `t` reads scale rows `256 t … 256 t + 255`. -/
theorem block_scales (c : Dev nD) (t : Fin cfg0.N) (n : Fin 256) (g : Fin 256) (N : Fin 16384) (hN : (N : ℕ) = 256 * t + n) :
    (iblk m c 2 t : Vec Ideal S256x256 .bf16) (ix2 n g)
      = (m ((c : Thread nD τ).loc main_arg2) : FVec Ideal S16384x256 .bf16) (ix2 N g) := by
  blk_ext [iblk, V, idx t]

/-- After every point the scratch holds the copy of the activations. -/
theorem scratch (c : Dev nD) (n : ℕ) (hn : n < cfg0.N) : (outsAt0 m c n hn).2 = k0_pay9 (acts m c) := by
  have hN : cfg0.N = 64 := N_0
  induction n with
  | zero =>
    rw [outsAt0_A m c ⟨0, hn⟩ rfl]
    dsimp only
    rw [soutA, block_acts]
  | succ n ih =>
    rw [outsAt0_B m c ⟨n + 1, hn⟩ (by show ¬ (n + 1) % 64 = 0; omega)]
    exact ih _

/-- After every point the output block holds the 32 steps. -/
theorem block (c : Dev nD) (t : Fin cfg0.N) :
    (outsAt0 m c t.val t.isLt).1
      = truncf .bf16 (chain (iblk m c 1 t) (iblk m c 2 t) (k0_pay9 (acts m c)) 32) bitsLt_bf16_f32 := by
  by_cases h : t.val % 64 = 0
  · rw [outsAt0_A m c t h]
    dsimp only
    rw [outA, block_acts]
  · rw [outsAt0_B m c t h]
    dsimp only
    rw [outB, scratch]

/-- The block of point `t` at an entry: the sum over 8192 columns of the arguments. -/
theorem block_at (c : Dev nD) (t : Fin cfg0.N) (b : Fin 48) (n : Fin 256) (N : Fin 16384) (hN : (N : ℕ) = 256 * t + n) :
    (outsAt0 m c t.val t.isLt).1 (ix2 b n)
      = Dot.dot (fun d => (m ((c : Thread nD τ).loc main_arg0) : FVec Ideal S48x1x8192 .bf16) (ix3 b 0 d))
          (fun k => (m ((c : Thread nD τ).loc main_arg1) : IVec S16384x4096 8) (ix2 N k))
          (fun g => (m ((c : Thread nD τ).loc main_arg2) : FVec Ideal S16384x256 .bf16) (ix2 N g)) := by
  rw [block]
  refine (chain_at (iblk m c 1 t) (iblk m c 2 t) (k0_pay9 (acts m c)) b n 32 le_rfl).trans ?_
  simp only [copy_at, block_bytes m c t n _ N hN, block_scales m c t n _ N hN]
  have hb : ∀ d : Fin 8192, acts m c (ix2 (⟨2 * ((b : ℕ) / 2) + (b : ℕ) % 2, by omega⟩ : Fin 48) d)
      = (m ((c : Thread nD τ).loc main_arg0) : FVec Ideal S48x1x8192 .bf16) (ix3 b 0 d) := fun d => by
    have e : (⟨2 * ((b : ℕ) / 2) + (b : ℕ) % 2, by omega⟩ : Fin 48) = b := Fin.ext (Nat.div_add_mod _ 2)
    rw [e]
    rfl
  simp only [hb]
  rfl

/-- What the kernel's result holds. -/
def out (c : Dev nD) : FVec Ideal S48x16384 .bf16 := fun i =>
  Dot.dot (fun d => (m ((c : Thread nD τ).loc main_arg0) : FVec Ideal S48x1x8192 .bf16) (ix3 (i 0) 0 d))
    (fun k => (m ((c : Thread nD τ).loc main_arg1) : IVec S16384x4096 8) (ix2 (i 1) k))
    (fun g => (m ((c : Thread nD τ).loc main_arg2) : FVec Ideal S16384x256 .bf16) (ix2 (i 1) g))

/-- The result array after the run. -/
theorem final (c : Dev nD) : (dats m 0 c).arrAt 3 cfg0.N = out m c := by
  refine (dats m 0 c).arrAt_eq_of_covers 3 (out m c) (by decide +kernel) fun t hf y => ?_
  blk_simp [idx t]
  rw [after0_3]
  have hN : cfg0.N = 64 := N_0
  have ht : t.val < 64 := lt_of_lt_of_eq t.isLt hN
  have hy : (y 1 : ℕ) < 256 := (y 1).isLt
  have ey : y = ix2 (y 0) (y 1) := by blk_ext
  have e : ((win0_3.blk t).view.emb y : S48x16384.Idx) = ix2 (y 0) ⟨256 * t.val + (y 1 : ℕ), by omega⟩ := by
    blk_ext [idx t]
  rw [e]
  refine (congrArg _ ey).trans ?_
  exact block_at m c t (y 0) (y 1) ⟨256 * t.val + (y 1 : ℕ), by omega⟩ rfl

end Cert.KernelIdeal.Final
-- ==== Proof.Ref.lean ====
module

public import proofs.«01_k».proof.Proof.Gen.ReferenceIdeal.Run
public import Idealize.ShloMosaic.Lib.Pipeline.ValueKit
public import Idealize.ShloMosaic.Lib.Pointwise
public import proofs.«01_k».proof.Proof.Dot

@[expose] public section

set_option maxRecDepth 16384

/-! What the reference computes: at an entry, the sum over 8192 columns. -/

noncomputable section

namespace Cert.ReferenceIdeal.At

open Cert.ReferenceIdeal Cert.ReferenceIdeal.Gen Idealize.ShloMosaic Idealize.ShloMosaic.TcCoe Idealize.SL.Sem

/-- What the reference computes of its three arguments. -/
def ref (x : FVec Ideal S48x1x8192 .bf16) (w : IVec S16384x4096 8) (s : FVec Ideal S16384x256 .bf16) :
    FVec Ideal S48x16384 .bf16 :=
  shapeCast S48x16384
            (truncf (F := Ideal) FTy.bf16
              (addf
                (Host.dotGeneral dot_S48x1x256x16_S16384x256x16_S48x1x16384_23_12_01_0_n_n none
                  (shapeCast S48x1x256x16
                    (extractStridedSlice S48x1x256x16x1 ![0, 0, 0, 0, 0]
                      (shapeCast S48x1x256x16x2 x shapeCasts_S48x1x8192_S48x1x256x16x2)
                      slices_S48x1x256x16x2_S48x1x256x16x1_0_0_0_0_0)
                    shapeCasts_S48x1x256x16x1_S48x1x256x16)
                  (mulf
                    (subf
                      (sitofp FTy.bf16
                        (andi
                          (shapeCast S16384x256x16 (extui 32 w natLt_8_32)
                            shapeCasts_S16384x4096_S16384x256x16)
                          (broadcastInDim S16384x256x16 ![] bcast_S_S16384x256x16 (constantI S_ 32 15#32))))
                      (broadcastInDim S16384x256x16 ![] bcast_S_S16384x256x16 (constant S_ FTy.bf16 0x4100#16)))
                    (broadcastInDim S16384x256x16 ![0, 1, 2] bcast_S16384x256x1_S16384x256x16_0_1_2
                      (broadcastInDim S16384x256x1 ![0, 1] bcast_S16384x256_S16384x256x1_0_1 s))))
                (Host.dotGeneral dot_S48x1x256x16_S16384x256x16_S48x1x16384_23_12_01_0_n_n none
                  (shapeCast S48x1x256x16
                    (extractStridedSlice S48x1x256x16x1 ![0, 0, 0, 0, 1]
                      (shapeCast S48x1x256x16x2 x shapeCasts_S48x1x8192_S48x1x256x16x2)
                      slices_S48x1x256x16x2_S48x1x256x16x1_0_0_0_0_1)
                    shapeCasts_S48x1x256x16x1_S48x1x256x16)
                  (mulf
                    (subf
                      (sitofp FTy.bf16
                        (Host.shrsi
                          (shapeCast S16384x256x16 (extui 32 w natLt_8_32)
                            shapeCasts_S16384x4096_S16384x256x16)
                          (broadcastInDim S16384x256x16 ![] bcast_S_S16384x256x16 (constantI S_ 32 4#32))))
                      (broadcastInDim S16384x256x16 ![] bcast_S_S16384x256x16 (constant S_ FTy.bf16 0x4100#16)))
                    (broadcastInDim S16384x256x16 ![0, 1, 2] bcast_S16384x256x1_S16384x256x16_0_1_2
                      (broadcastInDim S16384x256x1 ![0, 1] bcast_S16384x256_S16384x256x1_0_1 s)))))
              bitsLt_bf16_f32)
            shapeCasts_S48x1x16384_S48x16384

/-- The reference at an entry. -/
theorem ref_at (x : FVec Ideal S48x1x8192 .bf16) (w : IVec S16384x4096 8) (s : FVec Ideal S16384x256 .bf16)
    (b : Fin 48) (n : Fin 16384) :
    ref x w s (ix2 b n) = Dot.dot (fun d => x (ix3 b 0 d)) (fun c => w (ix2 n c)) (fun g => s (ix2 n g)) := by
  pointwise [ref]
  rw [Dot.dot, Dot.sum_even_odd]
  congr 1 <;> refine Finset.sum_congr rfl fun g _ => Finset.sum_congr rfl fun e _ => ?_
  all_goals
    have hg := g.isLt
    have he := e.isLt
    unfold Dot.col
  · rw [dif_pos (by omega)]
    have e1 : ((g : ℕ) * 32 + (e : ℕ) * 2) / 2 = g * 16 + e := by omega
    have e2 : ((g : ℕ) * 32 + (e : ℕ) * 2) % 2 = 0 := by omega
    have e3 : ((g : ℕ) * 32 + (e : ℕ) * 2) / 32 = g := by omega
    simp only [e1, e2, e3, Codes.eight, Codes.low_int, Int.cast_sub, EReal.coe_sub]
    rfl
  · rw [dif_pos (by omega)]
    have e1 : ((g : ℕ) * 32 + (e : ℕ) * 2 + 1) / 2 = g * 16 + e := by omega
    have e2 : ((g : ℕ) * 32 + (e : ℕ) * 2 + 1) % 2 = 1 := by omega
    have e3 : ((g : ℕ) * 32 + (e : ℕ) * 2 + 1) / 32 = g := by omega
    simp only [e1, e2, e3, Codes.eight, Codes.high_int, Int.cast_sub, EReal.coe_sub]
    rfl

end Cert.ReferenceIdeal.At
-- ==== Proof.Equation.lean ====
module

public import proofs.«01_k».proof.Proof.Final
public import proofs.«01_k».proof.Proof.Ref

@[expose] public section

/-! The kernel and the reference compute the same array. -/

noncomputable section

namespace Cert.Equation

open Idealize.ShloMosaic Idealize.ShloMosaic.TcCoe Idealize.SL.Sem

/-- The kernel's result is the reference's function of the kernel's arguments. -/
theorem out_eq (m : (ℓ : Loc Cert.KernelIdeal.nD Cert.KernelIdeal.τ Cert.KernelIdeal.sig) → Buf (Elt Ideal) ℓ)
    (c : Dev Cert.KernelIdeal.nD) :
    Cert.KernelIdeal.Final.out m c
      = Cert.ReferenceIdeal.At.ref (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  have ei : i = ix2 (i 0) (i 1) := by blk_ext
  refine Eq.trans ?_ (congrArg _ ei.symm)
  exact (Cert.ReferenceIdeal.At.ref_at _ _ _ (i 0) (i 1)).symm

end Cert.Equation
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Equation
public import Idealize.ShloMosaic.Lib.Bf16PairInverse
public import Idealize.ShloMosaic.Lib.Quiescent

@[expose] public section

noncomputable section

namespace Cert.Proof

open Idealize.ShloMosaic Idealize.SL.Sem

/-- The kernel ends without fault and leaves its arguments unchanged. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference over the extended reals. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two scratches re-typed as pairs of bf16 rows, and the bit-casts between words and rows. -/
theorem preserves : Cert.preserves_Kernel_KernelIdeal :=
  open Cert.KernelIdeal IdealRules.bf16_pair in
  ⟨bufferStatement S24x2x8192 S24x1x8192, bufferStatement S256x2x256 S256x1x256, statement S48x8192 S24x8192,
    statement S24x2x8192 S24x1x8192, statement S256x256 S128x256, statement S128x2x256 S128x1x256,
    statement S1x2x256 S1x1x256, statement S16x256 S8x256, statement S24x2x256 S24x1x256, statement S48x256 S24x256⟩

/-- Both programs run and leave the same array. -/
theorem algebraic : Cert.algebraic_KernelIdeal_ReferenceIdeal := by
  intro m g m' g' _ hargs
  refine ⟨fun c => Cert.KernelIdeal.Final.out m c, ?_, ?_⟩
  · exact (θ_run Cert.KernelIdeal.defs _ _).mono
      (fun r h c => ⟨(h c).1.trans (Cert.KernelIdeal.Final.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2⟩ := hargs c
    rw [e0, e1, e2]
    exact (Cert.Equation.out_eq m c).symm

/-- All five claims together. -/
theorem claim : Cert.Claim :=
  ⟨Cert.Kernel.Gen.facts, Cert.KernelIdeal.Gen.facts, Cert.ReferenceIdeal.Gen.facts,
    frame_p, frame_pi, frame_ri, preserves, algebraic⟩

end Cert.Proof

end
